-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S_ : Shape := ⟨0, ![]⟩
abbrev S128 : Shape := ⟨1, ![128]⟩
abbrev S1000000 : Shape := ⟨1, ![1000000]⟩
abbrev S256x128 : Shape := ⟨2, ![256, 128]⟩
abbrev S128x1 : Shape := ⟨2, ![128, 1]⟩
abbrev S1 : Shape := ⟨1, ![1]⟩
abbrev S1x128 : Shape := ⟨2, ![1, 128]⟩
abbrev S1x1 : Shape := ⟨2, ![1, 1]⟩
abbrev S1x1x128 : Shape := ⟨3, ![1, 1, 128]⟩
abbrev S1x1x1 : Shape := ⟨3, ![1, 1, 1]⟩
abbrev S128x128 : Shape := ⟨2, ![128, 128]⟩

abbrev nBuf : Space → Nat
  | .hbm => 16
  | .vmem => 7
  | .smem => 0
  | _ => 0

abbrev bufTy : (tb : Table) → Fin (tcTables nBuf tb) → BufTy
  | .hbm, ⟨0, _⟩ => ⟨S_, .i32⟩
  | .hbm, ⟨1, _⟩ => ⟨S_, .i32⟩
  | .hbm, ⟨2, _⟩ => ⟨S128, .f32⟩
  | .hbm, ⟨3, _⟩ => ⟨S128, .f32⟩
  | .hbm, ⟨4, _⟩ => ⟨S1000000, .i32⟩
  | .hbm, ⟨5, _⟩ => ⟨S1000000, .f32⟩
  | .hbm, ⟨6, _⟩ => ⟨S256x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S1x1, .f32⟩
  | .hbm, ⟨14, _⟩ => ⟨S1x1, .f32⟩
  | .hbm, ⟨15, _⟩ => ⟨S1, .f32⟩
  | .local _ .vmem, ⟨0, _⟩ => ⟨S1x128, .f32⟩
  | .local _ .vmem, ⟨1, _⟩ => ⟨S1x128, .f32⟩
  | .local _ .vmem, ⟨2, _⟩ => ⟨S256x128, .f32⟩
  | .local _ .vmem, ⟨3, _⟩ => ⟨S1x128, .f32⟩
  | .local _ .vmem, ⟨4, _⟩ => ⟨S128x1, .f32⟩
  | .local _ .vmem, ⟨5, _⟩ => ⟨S1x1, .f32⟩
  | .local _ .vmem, ⟨6, _⟩ => ⟨S1x1, .f32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S_ : Shape := ⟨0, ![]⟩
abbrev S128 : Shape := ⟨1, ![128]⟩
abbrev S1000000 : Shape := ⟨1, ![1000000]⟩
abbrev S256x128 : Shape := ⟨2, ![256, 128]⟩
abbrev S128x1 : Shape := ⟨2, ![128, 1]⟩
abbrev S1 : Shape := ⟨1, ![1]⟩
abbrev S1x128 : Shape := ⟨2, ![1, 128]⟩
abbrev S256 : Shape := ⟨1, ![256]⟩

abbrev nBuf : Space → Nat
  | .hbm => 48
  | .vmem => 0
  | .smem => 0
  | _ => 0

abbrev bufTy : (tb : Table) → Fin (tcTables nBuf tb) → BufTy
  | .hbm, ⟨0, _⟩ => ⟨S_, .i32⟩
  | .hbm, ⟨1, _⟩ => ⟨S_, .i32⟩
  | .hbm, ⟨2, _⟩ => ⟨S128, .f32⟩
  | .hbm, ⟨3, _⟩ => ⟨S128, .f32⟩
  | .hbm, ⟨4, _⟩ => ⟨S1000000, .i32⟩
  | .hbm, ⟨5, _⟩ => ⟨S1000000, .f32⟩
  | .hbm, ⟨6, _⟩ => ⟨S256x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S128, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1x128, .f32⟩
  | .hbm, ⟨23, _⟩ => ⟨S1, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S256, .f32⟩
  | .hbm, ⟨28, _⟩ => ⟨S128, .f32⟩
  | .hbm, ⟨29, _⟩ => ⟨S128, .f32⟩
  | .hbm, ⟨30, _⟩ => ⟨S_, .f32⟩
  | .hbm, ⟨31, _⟩ => ⟨S128, .f32⟩
  | .hbm, ⟨32, _⟩ => ⟨S128, .f32⟩
  | .hbm, ⟨33, _⟩ => ⟨S1, .f32⟩
  | .hbm, ⟨34, _⟩ => ⟨S1, .f32⟩
  | .hbm, ⟨35, _⟩ => ⟨S1, .f32⟩
  | .hbm, ⟨36, _⟩ => ⟨S1, .f32⟩
  | .hbm, ⟨37, _⟩ => ⟨S_, .f32⟩
  | .hbm, ⟨38, _⟩ => ⟨S1, .f32⟩
  | .hbm, ⟨39, _⟩ => ⟨S1, .f32⟩
  | .hbm, ⟨40, _⟩ => ⟨S_, .f32⟩
  | .hbm, ⟨41, _⟩ => ⟨S1, .f32⟩
  | .hbm, ⟨42, _⟩ => ⟨S1, .f32⟩
  | .hbm, ⟨43, _⟩ => ⟨S_, .f32⟩
  | .hbm, ⟨44, _⟩ => ⟨S_, .i1⟩
  | .hbm, ⟨45, _⟩ => ⟨S_, .f32⟩
  | .hbm, ⟨46, _⟩ => ⟨S1, .f32⟩
  | .hbm, ⟨47, _⟩ => ⟨S1, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_call1_v0 : Ref sig .tc := ⟨.hbm, 16, rfl⟩
abbrev main_call1_cst : Ref sig .tc := ⟨.hbm, 17, rfl⟩
abbrev main_call1_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_call2_cst : Ref sig .tc := ⟨.hbm, 30, rfl⟩
abbrev main_call2_v0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_1 : Ref sig .tc := ⟨.hbm, 37, rfl⟩
abbrev main_v17 : Ref sig .tc := ⟨.hbm, 38, rfl⟩
abbrev main_v18 : Ref sig .tc := ⟨.hbm, 39, rfl⟩
abbrev main_cst_2 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_cst_4 : Ref sig .tc := ⟨.hbm, 45, rfl⟩
abbrev main_v22 : Ref sig .tc := ⟨.hbm, 46, rfl⟩
abbrev main_v23 : Ref sig .tc := ⟨.hbm, 47, rfl⟩

abbrev nD : Nat := 1
abbrev τ : Topo := Topo.v7x

variable {F : FTy → Type} [FloatOps F]
-- ==== Proof.KernelResult.lean ====
/-
  The kernel's run, read: what its result buffer holds when it ends, as the body's arithmetic on the whole argument
  arrays. The call has one grid point and every window is its whole array.
-/
module

public import proofs.«01_k».proof.Defs
public import proofs.«01_k».proof.Proof.Gen.KernelIdeal.Frame
public import Idealize.ShloMosaic.Lib.Claim
public import Idealize.ShloMosaic.Lib.Pointwise
public import Idealize.ShloMosaic.Lib.Pipeline.ValueKit

@[expose] public section

noncomputable section

open Idealize.ShloMosaic Idealize.ShloMosaic.TcCoe Idealize.SL.Sem

namespace Cert.KernelIdeal.Result

open Cert.KernelIdeal Cert.KernelIdeal.Gen

variable {F : FTy → Type} [FloatOps F]
variable (m : (ℓ : Loc nD τ sig) → Buf (Elt F) ℓ) (ρ : Dev nD → PrngReg)

/-- The body's arithmetic on whole arrays: the gate of the two rows `x` and `y` under the first layer `W1`, `b1` and the
    second layer `W2`, `b2`. The first layer's matrix is read as its upper and its lower 128 rows. -/
def gate (x y : FVec F S1x128 .f32) (W1 : FVec F S256x128 .f32) (b1 : FVec F S1x128 .f32) (W2 : FVec F S128x1 .f32)
    (b2 : FVec F S1x1 .f32) : FVec F S1x1 .f32 :=
  k0_pay1 (k0_pay4 x y) (k0_pay5 x y (View.ld W1 r0_1) (View.ld W1 r0_2) b1 W2) b2

/-! Every window's one block starts at the origin of its array. -/

theorem at_0 : ∀ a, win0_0.index t0_0 a = 0 := by decide +kernel
theorem at_1 : ∀ a, win0_1.index t0_0 a = 0 := by decide +kernel
theorem at_2 : ∀ a, win0_2.index t0_0 a = 0 := by decide +kernel
theorem at_3 : ∀ a, win0_3.index t0_0 a = 0 := by decide +kernel
theorem at_4 : ∀ a, win0_4.index t0_0 a = 0 := by decide +kernel
theorem at_5 : ∀ a, win0_5.index t0_0 a = 0 := by decide +kernel
theorem at_6 : ∀ a, win0_6.index t0_0 a = 0 := by decide +kernel

/-- The block of the first row is the whole row. -/
theorem blk_x (c : Dev nD) (t : Fin cfg0.N) : iblk m c 0 t = V m c main_v0 := by
  funext j; rcases fin_N0 t with rfl; blk_ext [iblk, at_0]

/-- The block of the second row is the whole row. -/
theorem blk_y (c : Dev nD) (t : Fin cfg0.N) : iblk m c 1 t = V m c main_v1 := by
  funext j; rcases fin_N0 t with rfl; blk_ext [iblk, at_1]

/-- The block of the first layer's matrix is the whole matrix. -/
theorem blk_W1 (c : Dev nD) (t : Fin cfg0.N) : iblk m c 2 t = V m c main_arg6 := by
  funext j; rcases fin_N0 t with rfl; blk_ext [iblk, at_2]

/-- The block of the first layer's bias is the whole bias. -/
theorem blk_b1 (c : Dev nD) (t : Fin cfg0.N) : iblk m c 3 t = V m c main_v2 := by
  funext j; rcases fin_N0 t with rfl; blk_ext [iblk, at_3]

/-- The block of the second layer's matrix is the whole matrix. -/
theorem blk_W2 (c : Dev nD) (t : Fin cfg0.N) : iblk m c 4 t = V m c main_arg8 := by
  funext j; rcases fin_N0 t with rfl; blk_ext [iblk, at_4]

/-- The block of the second layer's bias is the whole bias. -/
theorem blk_b2 (c : Dev nD) (t : Fin cfg0.N) : iblk m c 5 t = V m c main_v3 := by
  funext j; rcases fin_N0 t with rfl; blk_ext [iblk, at_5]

/-- The call's output array ends at the gate of the arrays the call finds. -/
theorem output (c : Dev nD) : (dats m 0 c).arrAt 6 cfg0.N
    = gate (V m c main_v0) (V m c main_v1) (V m c main_arg6) (V m c main_v2) (V m c main_arg8) (V m c main_v3) := by
  refine (dats m 0 c).arrAt_eq_of_covers 6 _ (by decide +kernel) fun t hf y => ?_
  blk_simp
  rw [after0_6]
  rw [blk_x, blk_y, blk_W1, blk_b1, blk_W2, blk_b2]
  frame_out
  rcases fin_N0 t with rfl
  rw [gate]
  congr 1
  blk_ext [at_6]

/-- The call finds the first feature row as launched, in a matrix's shape. -/
theorem entry_v0 (c : Dev nD) : V m c main_v0 = shapeCast S1x128 (m ((c : Thread nD τ).loc main_arg2)) shapeCasts_S128_S1x128 := by
  unfold V V0
  simp only [hostOps0, List.flatten_cons, List.flatten_nil, List.append_nil]
  after_results
  rfl

/-- The call finds the second feature row as launched, in a matrix's shape. -/
theorem entry_v1 (c : Dev nD) : V m c main_v1 = shapeCast S1x128 (m ((c : Thread nD τ).loc main_arg3)) shapeCasts_S128_S1x128 := by
  unfold V V0
  simp only [hostOps0, List.flatten_cons, List.flatten_nil, List.append_nil]
  after_results
  rfl

/-- The call finds the first layer's bias as launched, in a matrix's shape. -/
theorem entry_v2 (c : Dev nD) : V m c main_v2 = shapeCast S1x128 (m ((c : Thread nD τ).loc main_arg7)) shapeCasts_S128_S1x128 := by
  unfold V V0
  simp only [hostOps0, List.flatten_cons, List.flatten_nil, List.append_nil]
  after_results
  rfl

/-- The call finds the second layer's bias as launched, in a matrix's shape. -/
theorem entry_v3 (c : Dev nD) : V m c main_v3 = shapeCast S1x1 (m ((c : Thread nD τ).loc main_arg9)) shapeCasts_S1_S1x1 := by
  unfold V V0
  simp only [hostOps0, List.flatten_cons, List.flatten_nil, List.append_nil]
  after_results
  rfl

/-- The result buffer, written by the reshape after the call, ends at the output array in the result's shape. -/
theorem result (c : Dev nD) : Pipeline.afterTail₀ cfgs (dats m) 0 (V0 m) [hostOps1] c main_v5
    = shapeCast S1 (gate (shapeCast S1x128 (m ((c : Thread nD τ).loc main_arg2)) shapeCasts_S128_S1x128)
        (shapeCast S1x128 (m ((c : Thread nD τ).loc main_arg3)) shapeCasts_S128_S1x128)
        (m ((c : Thread nD τ).loc main_arg6))
        (shapeCast S1x128 (m ((c : Thread nD τ).loc main_arg7)) shapeCasts_S128_S1x128)
        (m ((c : Thread nD τ).loc main_arg8))
        (shapeCast S1x1 (m ((c : Thread nD τ).loc main_arg9)) shapeCasts_S1_S1x1)) shapeCasts_S1x1_S1 := by
  unfold Pipeline.afterTail₀
  have e : StableHlo.after [hostOps1].flatten
      (Pipeline.withArrays (cfgs 0).spec c (V0 m c) fun w => (dats m 0 c).arrAt w (cfgs 0).N) (Proc.tc.devRef main_v5)
      = shapeCast S1 (Pipeline.withArrays (cfgs 0).spec c (V0 m c) (fun w => (dats m 0 c).arrAt w (cfgs 0).N)
          (Proc.tc.devRef (Pipeline.arrRef spec0 6))) shapeCasts_S1x1_S1 := by
    simp only [hostOps1, List.flatten_cons, List.flatten_nil, List.append_nil]
    after_results
    rfl
  rw [e, Pipeline.withArrays_arr spec0 (by decide) c (V0 m c) (fun w => (dats m 0 c).arrAt w (cfgs 0).N) 6]
  rw [show (dats m 0 c).arrAt 6 (cfgs 0).N = _ from output m c]
  rw [entry_v0, entry_v1, entry_v2, entry_v3, V_main_arg6, V_main_arg8]

end Cert.KernelIdeal.Result

end
-- ==== Proof.Equation.lean ====
/-
  The kernel's gate and the reference's gate are one function of the argument arrays, over the extended reals.
-/
module

public import proofs.«01_k».proof.Proof.KernelResult
public import proofs.«01_k».proof.Proof.Gen.ReferenceIdeal.Run

@[expose] public section

noncomputable section

open Idealize.ShloMosaic Idealize.SL.Sem

namespace Cert.Equation

/-- The reference's arithmetic on the argument arrays: zero where the cosine similarity of `x` and `y` is below the
    threshold, and elsewhere the logistic function of the two-layer perceptron of their concatenation. -/
def refGate (x y : FVec Ideal ReferenceIdeal.S128 .f32) (W1 : FVec Ideal ReferenceIdeal.S256x128 .f32)
    (b1 : FVec Ideal ReferenceIdeal.S128 .f32) (W2 : FVec Ideal ReferenceIdeal.S128x1 .f32)
    (b2 : FVec Ideal ReferenceIdeal.S1 .f32) : FVec Ideal ReferenceIdeal.S1 .f32 :=
  open Cert.ReferenceIdeal Cert.ReferenceIdeal.Gen in
  select (broadcastInDim S1 ![] bcast_S_S1 (cmpf .olt (Host.divf (shapeCast _ (Host.dotGeneral dot_S1x128_S128_S1_1_0_0_n_n_n none (broadcastInDim S1x128 ![1] bcast_S128_S1x128_1 x) y) shapeCasts_S1_S_) (mulf (maximumf (Host.sqrt (Host.reduceAdd (mulf x x) (constant S_ .f32 0x00000000#32) reducesTo_S128_S_d0 h_S_)) (constant S_ .f32 0x322BCC77#32)) (maximumf (Host.sqrt (Host.reduceAdd (mulf y y) (constant S_ .f32 0x00000000#32) reducesTo_S128_S_d0 h_S_)) (constant S_ .f32 0x322BCC77#32)))) (constant S_ .f32 0x3F333333#32))) (broadcastInDim S1 ![] bcast_S_S1 (constant S_ .f32 0x00000000#32)) (Host.divf (broadcastInDim S1 ![] bcast_S_S1 (constant S_ .f32 0x3F800000#32)) (addf (broadcastInDim S1 ![] bcast_S_S1 (constant S_ .f32 0x3F800000#32)) (Host.exp (Host.negf (addf (Host.dotGeneral dot_S128_S128x1_S1_0_0_n_1_n_n none (maximumf (addf (Host.dotGeneral dot_S256_S256x128_S128_0_0_n_1_n_n none (concatenate S256 0 [⟨S128, x⟩, ⟨S128, y⟩] concatenates_S128_S128_S256_d0) W1) b1) (broadcastInDim S128 ![] bcast_S_S128 (constant S_ .f32 0x00000000#32))) W2) b2)))))

set_option maxRecDepth 16384 in
/-- The kernel's gate of the arguments in matrix shapes is the reference's gate of the arguments. -/
theorem gate_eq (x y : FVec Ideal ReferenceIdeal.S128 .f32) (W1 : FVec Ideal ReferenceIdeal.S256x128 .f32)
    (b1 : FVec Ideal ReferenceIdeal.S128 .f32) (W2 : FVec Ideal ReferenceIdeal.S128x1 .f32)
    (b2 : FVec Ideal ReferenceIdeal.S1 .f32) :
    shapeCast KernelIdeal.S1 (KernelIdeal.Result.gate (shapeCast KernelIdeal.S1x128 x KernelIdeal.Gen.shapeCasts_S128_S1x128)
      (shapeCast KernelIdeal.S1x128 y KernelIdeal.Gen.shapeCasts_S128_S1x128) W1
      (shapeCast KernelIdeal.S1x128 b1 KernelIdeal.Gen.shapeCasts_S128_S1x128) W2
      (shapeCast KernelIdeal.S1x1 b2 KernelIdeal.Gen.shapeCasts_S1_S1x1)) KernelIdeal.Gen.shapeCasts_S1x1_S1
    = refGate x y W1 b1 W2 b2 := by
  funext j
  idx_vars j
  unfold refGate KernelIdeal.Result.gate
  unfold_payloads
  pointwise [KernelIdeal.Gen.r0_1, KernelIdeal.Gen.r0_2]
  rw [ite_apply]
  pointwise
  simp only [Fin.sum_univ_one, Fin.isValue]
  obtain rfl : j0 = 0 := Subsingleton.elim _ _
  rfl

end Cert.Equation

end
-- ==== Proof.Values.lean ====
/-
  The value claim: the kernel and the reference, run from the same arguments, end with the same result.
-/
module

public import proofs.«01_k».proof.Defs
public import proofs.«01_k».proof.Proof.Equation

@[expose] public section

noncomputable section

open Idealize.ShloMosaic Idealize.ShloMosaic.TcCoe Idealize.SL.Sem

namespace Cert.Values

/-- The kernel's run: the result buffer ends at the reference's gate of the arguments, the arguments unchanged. -/
theorem kernel_run (m : (ℓ : Loc KernelIdeal.nD KernelIdeal.τ KernelIdeal.sig) → Buf (Elt Ideal) ℓ)
    (g : Dev KernelIdeal.nD → PrngReg) :
    θ_run (KernelIdeal.defs (F := Ideal)) (onTc (τ := KernelIdeal.τ) (KernelIdeal.main (F := Ideal))) ⟨m, fun _ => 0, g⟩
      (fun r => ∀ c : Dev KernelIdeal.nD,
        r.2.mem ((c : Thread KernelIdeal.nD KernelIdeal.τ).loc KernelIdeal.main_v5)
          = Equation.refGate (m ((c : Thread KernelIdeal.nD KernelIdeal.τ).loc KernelIdeal.main_arg2))
              (m ((c : Thread KernelIdeal.nD KernelIdeal.τ).loc KernelIdeal.main_arg3))
              (m ((c : Thread KernelIdeal.nD KernelIdeal.τ).loc KernelIdeal.main_arg6))
              (m ((c : Thread KernelIdeal.nD KernelIdeal.τ).loc KernelIdeal.main_arg7))
              (m ((c : Thread KernelIdeal.nD KernelIdeal.τ).loc KernelIdeal.main_arg8))
              (m ((c : Thread KernelIdeal.nD KernelIdeal.τ).loc KernelIdeal.main_arg9))) :=
  (θ_run _ _ _).mono (fun _ h c =>
      ((h c).2 KernelIdeal.main_v5 (Pipeline.mem_restRefs_of KernelIdeal.main_v5 (by decide) (by decide))).trans
        ((KernelIdeal.Result.result m c).trans (Equation.gate_eq _ _ _ _ _ _)))
    (KernelIdeal.Gen.run_main m g)

/-- The kernel and the reference end with one result on the same arguments, over the extended reals. -/
theorem values : Cert.algebraic_KernelIdeal_ReferenceIdeal := by
  intro m g m' g' _ hagree
  refine ⟨_, (θ_run _ _ _).mono (fun _ h c => ⟨h.1 c, h.2 c⟩)
    (θ_run_and (kernel_run m g) (KernelIdeal.Gen.unchanged m g)), (θ_run _ _ _).mono (fun _ h c => ?_)
    (ReferenceIdeal.Value.run m' g')⟩
  refine ⟨(h c).1.trans ?_, (h c).2⟩
  obtain ⟨_, _, h2, h3, _, _, h6, h7, h8, h9⟩ := hagree c
  rw [h2, h3, h6, h7, h8, h9]
  rfl

end Cert.Values

end
-- ==== Proof.lean ====
/-
  The certificate of the attention gate: the kernel and its real-number reading terminate and leave their arguments
  alone, and the kernel's one result is the reference's, over the extended reals.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Values
public import Idealize.ShloMosaic.Lib.Quiescent

@[expose] public section

namespace Cert.Proof

open Idealize.ShloMosaic Idealize.SL.Sem

/-- The reference terminates with its arguments unchanged and every counter at zero. -/
theorem reference_frame : Cert.quiescent_ReferenceIdeal := by
  intro m ρ _
  exact (θ_run _ _ _).mono (fun r h => ⟨fun c => (h c).2, sem_eq_zero_of_no_sems (by decide) r.2⟩)
    (Cert.ReferenceIdeal.Value.run m ρ)

/-- Everything the certificate claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, trivial,
    Cert.Values.values⟩

end Cert.Proof
